-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x512x512 : Shape := ⟨4, ![64, 3, 512, 512]⟩
abbrev S64x1 : Shape := ⟨2, ![64, 1]⟩
abbrev S64 : Shape := ⟨1, ![64]⟩
abbrev S192x128 : Shape := ⟨2, ![192, 128]⟩
abbrev S1x192 : Shape := ⟨2, ![1, 192]⟩
abbrev S1 : Shape := ⟨1, ![1]⟩
abbrev S192x1 : Shape := ⟨2, ![192, 1]⟩
abbrev S64x384x1 : Shape := ⟨3, ![64, 384, 1]⟩
abbrev S64x257x1 : Shape := ⟨3, ![64, 257, 1]⟩

abbrev nBuf : Space → Nat
  | .hbm => 6
  | .vmem => 1
  | .smem => 1
  | _ => 0

abbrev bufTy : (tb : Table) → Fin (tcTables nBuf tb) → BufTy
  | .hbm, ⟨0, _⟩ => ⟨S64x3x512x512, .f32⟩
  | .hbm, ⟨1, _⟩ => ⟨S64x1, .f32⟩
  | .hbm, ⟨2, _⟩ => ⟨S64, .f32⟩
  | .hbm, ⟨3, _⟩ => ⟨S192x128, .i32⟩
  | .hbm, ⟨4, _⟩ => ⟨S64x384x1, .i32⟩
  | .hbm, ⟨5, _⟩ => ⟨S64x257x1, .i32⟩
  | .local _ .vmem, ⟨0, _⟩ => ⟨S192x128, .i32⟩
  | .local _ .smem, ⟨0, _⟩ => ⟨S64, .f32⟩
  | _, _ => ⟨S64x3x512x512, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x3x512x512 : Shape := ⟨4, ![64, 3, 512, 512]⟩
abbrev S64x1 : Shape := ⟨2, ![64, 1]⟩
abbrev S64x512x512x3 : Shape := ⟨4, ![64, 512, 512, 3]⟩
abbrev S64x512x256x3 : Shape := ⟨4, ![64, 512, 256, 3]⟩
abbrev S_ : Shape := ⟨0, ![]⟩
abbrev S64x512x257x3 : Shape := ⟨4, ![64, 512, 257, 3]⟩
abbrev S64x257x512x3 : Shape := ⟨4, ![64, 257, 512, 3]⟩
abbrev S257 : Shape := ⟨1, ![257]⟩
abbrev S1x257 : Shape := ⟨2, ![1, 257]⟩
abbrev S64x257 : Shape := ⟨2, ![64, 257]⟩
abbrev S64x257x1 : Shape := ⟨3, ![64, 257, 1]⟩
abbrev S64 : Shape := ⟨1, ![64]⟩
abbrev S64x1x1 : Shape := ⟨3, ![64, 1, 1]⟩
abbrev S1x64x1x1x1x1 : Shape := ⟨6, ![1, 64, 1, 1, 1, 1]⟩
abbrev S1x64x257x1x1x1 : Shape := ⟨6, ![1, 64, 257, 1, 1, 1]⟩
abbrev S64x257x2 : Shape := ⟨3, ![64, 257, 2]⟩
abbrev S64x256x1 : Shape := ⟨3, ![64, 256, 1]⟩
abbrev S64x256x1x1 : Shape := ⟨4, ![64, 256, 1, 1]⟩
abbrev S16448x2 : Shape := ⟨2, ![16448, 2]⟩
abbrev S16448x1 : Shape := ⟨2, ![16448, 1]⟩
abbrev S16448 : Shape := ⟨1, ![16448]⟩
abbrev S25264128 : Shape := ⟨1, ![25264128]⟩
abbrev S1 : Shape := ⟨1, ![1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S64x3x512x512, .f32⟩
  | 1 => ⟨S64x1, .f32⟩
  | 2 => ⟨S64x512x512x3, .f32⟩
  | 3 => ⟨S64x512x256x3, .f32⟩
  | 4 => ⟨S_, .f32⟩
  | 5 => ⟨S_, .f32⟩
  | 6 => ⟨S64x512x256x3, .f32⟩
  | 7 => ⟨S_, .i32⟩
  | 8 => ⟨S_, .f32⟩
  | 9 => ⟨S64x512x257x3, .f32⟩
  | 10 => ⟨S64x257x512x3, .f32⟩
  | 11 => ⟨S64x512x256x3, .f32⟩
  | 12 => ⟨S64x512x256x3, .f32⟩
  | 13 => ⟨S_, .f32⟩
  | 14 => ⟨S_, .f32⟩
  | 15 => ⟨S64x512x256x3, .f32⟩
  | 16 => ⟨S_, .i32⟩
  | 17 => ⟨S_, .f32⟩
  | 18 => ⟨S64x512x257x3, .f32⟩
  | 19 => ⟨S64x257x512x3, .f32⟩
  | 20 => ⟨S257, .f32⟩
  | 21 => ⟨S_, .f32⟩
  | 22 => ⟨S257, .f32⟩
  | 23 => ⟨S257, .f32⟩
  | 24 => ⟨S1x257, .f32⟩
  | 25 => ⟨S_, .f32⟩
  | 26 => ⟨S1x257, .f32⟩
  | 27 => ⟨S1x257, .f32⟩
  | 28 => ⟨S_, .f32⟩
  | 29 => ⟨S64x1, .f32⟩
  | 30 => ⟨S64x1, .f32⟩
  | 31 => ⟨S1x257, .f32⟩
  | 32 => ⟨S64x1, .f32⟩
  | 33 => ⟨S_, .f32⟩
  | 34 => ⟨S64x1, .f32⟩
  | 35 => ⟨S64x1, .f32⟩
  | 36 => ⟨S1x257, .f32⟩
  | 37 => ⟨S64x257, .f32⟩
  | 38 => ⟨S64x257, .f32⟩
  | 39 => ⟨S64x257, .f32⟩
  | 40 => ⟨S64x257, .f32⟩
  | 41 => ⟨S64x257, .f32⟩
  | 42 => ⟨S64x257, .f32⟩
  | 43 => ⟨S1x257, .f32⟩
  | 44 => ⟨S64x257, .f32⟩
  | 45 => ⟨S64x257, .f32⟩
  | 46 => ⟨S64x257, .f32⟩
  | 47 => ⟨S64x257, .f32⟩
  | 48 => ⟨S64x257, .f32⟩
  | 49 => ⟨S64x257, .f32⟩
  | 50 => ⟨S64x257, .f32⟩
  | 51 => ⟨S64x257, .f32⟩
  | 52 => ⟨S64x257, .f32⟩
  | 53 => ⟨S64x257, .f32⟩
  | 54 => ⟨S64x257, .f32⟩
  | 55 => ⟨S_, .f32⟩
  | 56 => ⟨S64x257, .f32⟩
  | 57 => ⟨S64x257, .f32⟩
  | 58 => ⟨S64x1, .f32⟩
  | 59 => ⟨S_, .f32⟩
  | 60 => ⟨S64x1, .f32⟩
  | 61 => ⟨S64x1, .f32⟩
  | 62 => ⟨S_, .f32⟩
  | 63 => ⟨S64x1, .f32⟩
  | 64 => ⟨S64x1, .f32⟩
  | 65 => ⟨S64x1, .f32⟩
  | 66 => ⟨S_, .f32⟩
  | 67 => ⟨S64x1, .f32⟩
  | 68 => ⟨S64x1, .f32⟩
  | 69 => ⟨S_, .f32⟩
  | 70 => ⟨S64x1, .f32⟩
  | 71 => ⟨S64x1, .f32⟩
  | 72 => ⟨S64x1, .f32⟩
  | 73 => ⟨S_, .f32⟩
  | 74 => ⟨S64x1, .f32⟩
  | 75 => ⟨S64x1, .f32⟩
  | 76 => ⟨S64x1, .f32⟩
  | 77 => ⟨S64x1, .f32⟩
  | 78 => ⟨S64x1, .f32⟩
  | 79 => ⟨S64x1, .f32⟩
  | 80 => ⟨S_, .f32⟩
  | 81 => ⟨S64x1, .f32⟩
  | 82 => ⟨S64x1, .f32⟩
  | 83 => ⟨S64x257, .f32⟩
  | 84 => ⟨S64x257, .f32⟩
  | 85 => ⟨S64x257, .f32⟩
  | 86 => ⟨S64x257, .f32⟩
  | 87 => ⟨S_, .f32⟩
  | 88 => ⟨S64x257, .f32⟩
  | 89 => ⟨S64x257, .f32⟩
  | 90 => ⟨S_, .f32⟩
  | 91 => ⟨S64x257, .f32⟩
  | 92 => ⟨S64x257, .f32⟩
  | 93 => ⟨S_, .i32⟩
  | 94 => ⟨S_, .i32⟩
  | 95 => ⟨S_, .f32⟩
  | 96 => ⟨S64x257, .f32⟩
  | 97 => ⟨S64x257, .f32⟩
  | 98 => ⟨S_, .f32⟩
  | 99 => ⟨S64x257, .f32⟩
  | 100 => ⟨S64x257, .f32⟩
  | 101 => ⟨S64x257, .f32⟩
  | 102 => ⟨S64x257, .i32⟩
  | 103 => ⟨S64x257x1, .i32⟩
  | 104 => ⟨S64, .f32⟩
  | 105 => ⟨S64x1x1, .f32⟩
  | 106 => ⟨S1x64x1x1x1x1, .f32⟩
  | 107 => ⟨S1x64x257x1x1x1, .f32⟩
  | 108 => ⟨S64x257x1, .f32⟩
  | 109 => ⟨S64x257x1, .f32⟩
  | 110 => ⟨S64x257x2, .f32⟩
  | 111 => ⟨S64x256x1, .i32⟩
  | 112 => ⟨S64x256x1, .i32⟩
  | 113 => ⟨S64x256x1, .i32⟩
  | 114 => ⟨S64x256x1, .f32⟩
  | 115 => ⟨S_, .i32⟩
  | 116 => ⟨S_, .i32⟩
  | 117 => ⟨S_, .f32⟩
  | 118 => ⟨S64x256x1, .f32⟩
  | 119 => ⟨S64x256x1, .f32⟩
  | 120 => ⟨S_, .f32⟩
  | 121 => ⟨S64x256x1, .f32⟩
  | 122 => ⟨S64x256x1, .f32⟩
  | 123 => ⟨S64x256x1x1, .f32⟩
  | 124 => ⟨S16448x2, .f32⟩
  | 125 => ⟨S16448x2, .i32⟩
  | 126 => ⟨S16448x1, .i32⟩
  | 127 => ⟨S16448, .i32⟩
  | _ => ⟨S64x3x512x512, .f32⟩

abbrev hbmTy0_1 (i : Nat) : BufTy := match i % 128 with
  | 0 => ⟨S_, .i32⟩
  | 1 => ⟨S16448, .i32⟩
  | 2 => ⟨S16448, .i32⟩
  | 3 => ⟨S16448x1, .i32⟩
  | 4 => ⟨S16448, .i32⟩
  | 5 => ⟨S_, .i32⟩
  | 6 => ⟨S16448, .i32⟩
  | 7 => ⟨S16448, .i32⟩
  | 8 => ⟨S16448, .i32⟩
  | 9 => ⟨S25264128, .f32⟩
  | 10 => ⟨S_, .i32⟩
  | 11 => ⟨S16448, .i32⟩
  | 12 => ⟨S16448, .i1⟩
  | 13 => ⟨S_, .i32⟩
  | 14 => ⟨S16448, .i32⟩
  | 15 => ⟨S16448, .i32⟩
  | 16 => ⟨S16448, .i32⟩
  | 17 => ⟨S16448x1, .i32⟩
  | 18 => ⟨S1, .i32⟩
  | 19 => ⟨S_, .i32⟩
  | 20 => ⟨S16448x1, .i32⟩
  | 21 => ⟨S16448x1, .i1⟩
  | 22 => ⟨S1x1, .i32⟩
  | 23 => ⟨S16448x1, .i32⟩
  | 24 => ⟨S16448x1, .i1⟩
  | 25 => ⟨S16448x1, .i1⟩
  | 26 => ⟨S_, .i1⟩
  | 27 => ⟨S16448, .i1⟩
  | 28 => ⟨S16448, .f32⟩
  | 29 => ⟨S_, .f32⟩
  | 30 => ⟨S16448, .f32⟩
  | 31 => ⟨S16448, .f32⟩
  | _ => ⟨S64x3x512x512, .f32⟩

abbrev hbmTy (i : Nat) : BufTy := match i / 128 with
  | 0 => hbmTy0_0 i
  | 1 => hbmTy0_1 i
  | _ => ⟨S64x3x512x512, .f32⟩

abbrev bufTy : (tb : Table) → Fin (tcTables nBuf tb) → BufTy
  | .hbm, ⟨i, _⟩ => hbmTy i
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_call0_cst : Ref sig .tc := ⟨.hbm, 4, rfl⟩
abbrev main_call0_call0_v0 : Ref sig .tc := ⟨.hbm, 5, rfl⟩
abbrev main_v2 : Ref sig .tc := ⟨.hbm, 6, rfl⟩
abbrev main_c : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call3_call0_cst : Ref sig .tc := ⟨.hbm, 13, rfl⟩
abbrev main_call3_call0_v0 : Ref sig .tc := ⟨.hbm, 14, rfl⟩
abbrev main_v7 : Ref sig .tc := ⟨.hbm, 15, rfl⟩
abbrev main_c_0 : Ref sig .tc := ⟨.hbm, 16, rfl⟩
abbrev main_call4_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_c_13 : Ref sig .tc := ⟨.hbm, 93, rfl⟩
abbrev main_c_14 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_15 : Ref sig .tc := ⟨.hbm, 115, rfl⟩
abbrev main_c_16 : Ref sig .tc := ⟨.hbm, 116, rfl⟩
abbrev main_call7_v0 : Ref sig .tc := ⟨.hbm, 117, rfl⟩
abbrev main_call7_v1 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_17 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_18 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_call8_c : Ref sig .tc := ⟨.hbm, 138, rfl⟩
abbrev main_call8_v0 : Ref sig .tc := ⟨.hbm, 139, rfl⟩
abbrev main_call8_v1 : Ref sig .tc := ⟨.hbm, 140, rfl⟩
abbrev main_call8_c_0 : Ref sig .tc := ⟨.hbm, 141, rfl⟩
abbrev main_call8_v2 : Ref sig .tc := ⟨.hbm, 142, rfl⟩
abbrev main_call8_v3 : Ref sig .tc := ⟨.hbm, 143, rfl⟩
abbrev main_call8_v4 : Ref sig .tc := ⟨.hbm, 144, rfl⟩
abbrev main_call8_v5 : Ref sig .tc := ⟨.hbm, 145, rfl⟩
abbrev main_call8_c_1 : Ref sig .tc := ⟨.hbm, 146, rfl⟩
abbrev main_call8_c_2 : Ref sig .tc := ⟨.hbm, 147, rfl⟩
abbrev main_call8_v6 : Ref sig .tc := ⟨.hbm, 148, rfl⟩
abbrev main_call8_v7 : Ref sig .tc := ⟨.hbm, 149, rfl⟩
abbrev main_call8_v8 : Ref sig .tc := ⟨.hbm, 150, rfl⟩
abbrev main_call8_v9 : Ref sig .tc := ⟨.hbm, 151, rfl⟩
abbrev main_call8_v10 : Ref sig .tc := ⟨.hbm, 152, rfl⟩
abbrev main_call8_v11 : Ref sig .tc := ⟨.hbm, 153, rfl⟩
abbrev main_call8_c_3 : Ref sig .tc := ⟨.hbm, 154, rfl⟩
abbrev main_call8_v12 : Ref sig .tc := ⟨.hbm, 155, rfl⟩
abbrev main_call8_v13 : Ref sig .tc := ⟨.hbm, 156, rfl⟩
abbrev main_call8_cst : Ref sig .tc := ⟨.hbm, 157, rfl⟩
abbrev main_call8_v14 : Ref sig .tc := ⟨.hbm, 158, rfl⟩
abbrev main_v99 : Ref sig .tc := ⟨.hbm, 159, rfl⟩

abbrev nD : Nat := 1
abbrev τ : Topo := Topo.v7x

variable {F : FTy → Type} [FloatOps F]
-- ==== Proof.Body.lean ====
/- What the kernel's one call leaves in its output array, as one function of the parameters: the row filled by sixty-four
   selects, read as a column, through the arithmetic of the last two stages. -/
module
public import proofs.«01_k».proof.Proof.Gen.KernelIdeal.Frame
public import Idealize.ShloMosaic.Lib.Pipeline.ValueKit
public import Idealize.ShloMosaic.Lib.Claim
public import Idealize.ShloMosaic.Lib.ValueIdx
@[expose] public section
set_option maxRecDepth 16384
noncomputable section
namespace Cert.KernelIdeal.Anchors
open Idealize.ShloMosaic Idealize.ShloMosaic.TcCoe Idealize.ShloMosaic.Tactic
open Idealize.SL Idealize.SL.Sem
open Cert.KernelIdeal Cert.KernelIdeal.Gen
variable {F : FTy → Type} [FloatOps F]

variable (m : (ℓ : Loc nD τ sig) → Buf (Elt F) ℓ)

/-- The row of 192 lanes after `k` selects: select `k` puts the value `x k` on the lanes `3k`, `3k + 1`, `3k + 2`. -/
def fill (x : ℕ → F .f32) : ℕ → FVec F S1x192 .f32
  | 0 => broadcast S1x192 (Scalar.ofBits .f32 0x00000000#32)
  | k + 1 =>
    select (andi (cmpi .sge (iota .tc S1x192 32 [1] iota_S1x192_d1_w32) (broadcast S1x192 (BitVec.ofNat 32 (3 * k))))
        (cmpi .slt (iota .tc S1x192 32 [1] iota_S1x192_d1_w32) (broadcast S1x192 (BitVec.ofNat 32 (3 * k + 3)))))
      (broadcast S1x192 (x k)) (fill x k)

/-- Parameter `k`, for any number `k` (zero past the end). -/
def word (x : Vec F S64 .f32) (k : ℕ) : F .f32 := if h : k < 64 then x (ValueIdx.ix1 ⟨k, h⟩) else Scalar.ofBits .f32 0x00000000#32

/-- The filled row, read as a column. -/
def column (x : ℕ → F .f32) : FVec F S192x1 .f32 := shapeCast S192x1 (fill x 64) shapeCasts_S1x192_S192x1

/-- The array the call leaves. -/
def out (x : Vec F S64 .f32) : IVec S192x128 32 :=
  k0_pay1 (k0_pay28 (column (word x)) (iota .tc S192x128 32 [1] iota_S192x128_d1_w32) 3#32 k0_pay26 k0_pay27) k0_pay29

/-- A scalar read of the parameters. -/
theorem ld_word (x : Vec F S64 .f32) (k : ℕ) (inb : ∀ a : Fin S64.rank, ![k] a + ![1] a ≤ S64.size a)
    (j : (Rect.unit (s := S64) ![k] ![1] inb).shape.Idx) :
    View.ld (Val := Elt F) (S := S64) x (Rect.unit (s := S64) ![k] ![1] inb) j = word x k := by
  have h : k < 64 := inb 0
  rw [word, dif_pos h]
  refine View.ld_unit_apply_of _ _ _ _ _ _ fun a => ?_
  fin_cases a
  have h1 : (j 0).val < 1 := (j 0).isLt
  show k = k + (j 0).val
  omega

/-- The staged parameters are the whole array. -/
theorem iblk_eq (c : Dev nD) (t : Fin cfg0.N) : iblk m c 0 t = V m c main_v0 := by
  funext y
  have e : ∀ t : Fin cfg0.N, win0_0.index t = ![0] := (by decide +kernel : ∀ t : Fin grid0.N, _)
  blk_simp [iblk]
  blk_ext [e t]

set_option maxHeartbeats 1600000 in
/-- What the body leaves in the output's buffer. -/
theorem outsAt_eq (c : Dev nD) (t : Fin cfg0.N) : outsAt0 m c t = out (V m c main_v0) := by
  unfold outsAt0 out0_A_1
  rw [View.read_writes_eq_canon _ _ _ (cover0_A_1 c _ _ _ _ _)]
  unfold kernelRun0_A
  dsimp only
  sl_unfold_words
  simp only [View.readAt_eq_ld, (hs0_0 t).read_unread]
  rw [View.canon_unit_zero (by funext a; fin_cases a <;> rfl)]
  simp only [iblk_eq]
  generalize V m c main_v0 = x
  repeat rw [ld_word]
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  unfold out column
  simp only [fill, Nat.reduceMul, Nat.reduceAdd]

/-- What the call leaves in its output array. -/
theorem final (c : Dev nD) : (dats m 0 c).arrAt 1 cfg0.N = out (V m c main_v0) := by
  refine (dats m 0 c).arrAt_eq_of_after_last 1 t0_0 (by decide +kernel) _ fun j => ?_
  blk_simp
  rw [after0_1]
  rw [outsAt_eq]
end Cert.KernelIdeal.Anchors

end
-- ==== Proof.Anchor.lean ====
/- The mathematics both programs compute, element by element: the anchor position of a parabola of parameter `p` at
   the distance `x`, and the four float constants it uses as extended reals. -/
module

public import Idealize.ShloMosaic.PureOps.Ideal
public import Idealize.ShloMosaic.PureOps.Ideal.Laws

@[expose] public section

noncomputable section

namespace Cert.Anchor

open Idealize.ShloMosaic

/-- The word of 256.0. -/
theorem word_256 : Ideal.ofBits .f32 0x43800000#32 = ((256 : ℝ) : EReal) := by
  simp [Ideal.ofBits, Ideal.ieee, -EReal.coe_mul]; norm_num

/-- The word of 2.0. -/
theorem word_2 : Ideal.ofBits .f32 0x40000000#32 = ((2 : ℝ) : EReal) := by
  simp [Ideal.ofBits, Ideal.ieee, -EReal.coe_mul]; norm_num

/-- The word of 0.5. -/
theorem word_half : Ideal.ofBits .f32 0x3F000000#32 = ((1 / 2 : ℝ) : EReal) := by
  simp [Ideal.ofBits, Ideal.ieee, -EReal.coe_mul]; norm_num

/-- The word of 0.25. -/
theorem word_quarter : Ideal.ofBits .f32 0x3E800000#32 = ((1 / 4 : ℝ) : EReal) := by
  simp [Ideal.ofBits, Ideal.ieee, -EReal.coe_mul]; norm_num

/-- The squared offset `0.25 / p²` under the square root. -/
def offset (p : EReal) : EReal := Ideal.div ((1 / 4 : ℝ) : EReal) (p * p)

/-- The magnitude, as the float operation has it. -/
def mag (x : EReal) : EReal := max x (-x)

/-- The integral of `√(x² + a)` from 0 to `x`, at `a = offset p`: its value at `x` less its value at 0. -/
def arc (p x : EReal) : EReal :=
  ((1 / 2 : ℝ) : EReal) * (x * Ideal.sqrt (x * x + offset p) + offset p * Ideal.log (mag (x + Ideal.sqrt (x * x + offset p))))
    - ((1 / 2 : ℝ) : EReal) * (offset p * Ideal.log (mag (Ideal.sqrt (offset p))))

/-- The anchor position: `2p` times the arc, moved by the half width and back, clipped to 0..256, rounded half to even. -/
def anchor (p x : EReal) : BitVec 32 :=
  Ideal.fptosi 32 (Ideal.liftRound Ideal.roundHalfEven
    (min ((256 : ℝ) : EReal) (max 0 (((2 : ℝ) : EReal) * p * arc p x + ((256 : ℝ) : EReal) - ((256 : ℝ) : EReal)))))

/-- The distance of the column `n` from the middle, formed by moving it 256 to the right and back, is `n`. -/
theorem mag_moved (n : ℕ) :
    mag (((256 : ℝ) : EReal) + ((n : ℝ) : EReal) - ((256 : ℝ) : EReal)) = ((n : ℝ) : EReal) := by
  have h : ((256 : ℝ) : EReal) + ((n : ℝ) : EReal) - ((256 : ℝ) : EReal) = ((n : ℝ) : EReal) := by
    rw [← EReal.coe_add, ← EReal.coe_sub, add_sub_cancel_left]
  rw [mag, h, max_eq_left]
  rw [← EReal.coe_neg, EReal.coe_le_coe_iff]
  have : (0 : ℝ) ≤ (n : ℝ) := Nat.cast_nonneg n
  linarith

end Cert.Anchor

end
-- ==== Proof.KernelValue.lean ====
/- The kernel's result, element by element: column `n` of row `b` is the anchor position of the row's parameter at the
   distance `n`. -/
module

public import proofs.«01_k».proof.Proof.Body
public import proofs.«01_k».proof.Proof.Anchor
public import Idealize.ShloMosaic.Lib.ValueIdx
public import Idealize.ShloMosaic.Lib.WordCmp
public import Idealize.ShloMosaic.Lib.Affine

@[expose] public section

noncomputable section

namespace Cert.KernelIdeal.Anchors

open Idealize.ShloMosaic Cert.KernelIdeal Cert.KernelIdeal.Gen Cert.Anchor

variable {F : FTy → Type} [FloatOps F]

/-- A lane of the first `k` threes holds its own value after `k` selects. -/
theorem fill_apply (x : ℕ → F .f32) (k : ℕ) (hk : k ≤ 64) (i : S1x192.Idx) (hi : (i 1).val < 3 * k) :
    fill x k i = x ((i 1).val / 3) := by
  induction k with
  | zero => omega
  | succ k ih =>
    have lane : (iota .tc S1x192 32 [1] iota_S1x192_d1_w32) i = BitVec.ofNat 32 (i 1).val := by
      rw [iota_single_apply]
    show Scalar.select (IntOp.andi (IntOp.cmpi .sge ((iota .tc S1x192 32 [1] iota_S1x192_d1_w32) i) (BitVec.ofNat 32 (3 * k)))
      (IntOp.cmpi .slt ((iota .tc S1x192 32 [1] iota_S1x192_d1_w32) i) (BitVec.ofNat 32 (3 * k + 3)))) (x k) (fill x k i) = _
    have hl : (i 1).val < 192 := (i 1).isLt
    rw [lane, WordCmp.cmpi_sge_ofNat (by show _ < 2 ^ 31; omega) (by show _ < 2 ^ 31; omega),
      WordCmp.cmpi_slt_ofNat (by show _ < 2 ^ 31; omega) (by show _ < 2 ^ 31; omega), WordCmp.andi_ofBool]
    by_cases h : (i 1).val < 3 * k
    · rw [ih (by omega) h, Scalar.select, if_neg]
      simp only [WordCmp.ofBool_eq_one_iff, WordCmp.ofBool_eq_one_iff', Bool.and_eq_true, decide_eq_true_eq]; omega
    · rw [Scalar.select, if_pos, show (i 1).val / 3 = k by omega]
      simp only [WordCmp.ofBool_eq_one_iff, WordCmp.ofBool_eq_one_iff', Bool.and_eq_true, decide_eq_true_eq]; omega

/-- The row number's remainder by three, as the kernel forms it. -/
theorem third (i : S192x128.Idx) : k0_pay26 i = BitVec.ofNat 32 ((i 0).val % 3) := by
  have h : (i 0).val < 192 := (i 0).isLt
  have lane : (iota .tc S192x128 32 [0] iota_S192x128_d0_w32) i = BitVec.ofNat 32 (i 0).val := by
    rw [iota_single_apply]
  show IntOp.remsi _ ((iota .tc S192x128 32 [0] iota_S192x128_d0_w32) i) 3#32 = _
  rw [lane]
  apply BitVec.eq_of_toNat_eq
  rw [IntOp.toNat_remsi _ (by rw [BitVec.toNat_ofNat]; omega) 3 (by omega) (by omega), BitVec.toNat_ofNat, BitVec.toNat_ofNat]
  omega

/-- The column of the filled row: row `r` holds the value of its third. -/
theorem column_apply (x : ℕ → F .f32) (i : S192x1.Idx) : column x i = x ((i 0).val / 3) := by
  have h : (i 0).val < 192 := (i 0).isLt
  have h1 : (i 1).val < 1 := (i 1).isLt
  rw [column, shapeCast_apply _ _ i (ValueIdx.ix2 0 ⟨(i 0).val, h⟩), fill_apply x 64 (le_refl _) _ (by show (i 0).val < 3 * 64; omega)]
  rw [Shape.rowMajor_val_two, Shape.rowMajor_val_two]
  show 0 * 192 + (i 0).val = (i 0).val * 1 + (i 1).val
  omega

/-- A column spread over 128 lanes. -/
theorem spread (y : FVec F S192x1 .f32) (i : S192x128.Idx) :
    broadcastTo S192x128 y broadcasts_S192x1_S192x128 i = y (ValueIdx.ix2 (i 0) 0) :=
  broadcastTo_apply _ _ _ _ fun a => by fin_cases a <;> rfl

/-- The distance of a place of the array, as a word: 128 lanes a row, three rows a parameter. -/
theorem place (i : S192x128.Idx) :
    addi (muli (select (andi (xori (cmpi .slt k0_pay26 (broadcast S192x128 0#32))
        (broadcastTo S192x128 (broadcast S192x128 (Scalar.cmpi .slt 3#32 0#32)) broadcasts_S192x128_S192x128)) k0_pay27)
      (addi k0_pay26 (broadcast S192x128 3#32)) k0_pay26) (broadcast S192x128 128#32))
      (iota .tc S192x128 32 [1] iota_S192x128_d1_w32) i = BitVec.ofNat 32 ((i 0).val % 3 * 128 + (i 1).val) := by
  have lane : (iota .tc S192x128 32 [1] iota_S192x128_d1_w32) i = BitVec.ofNat 32 (i 1).val := by
    rw [iota_single_apply]
  show IntOp.addi (IntOp.muli (Scalar.select (IntOp.andi (IntOp.xori (IntOp.cmpi .slt (k0_pay26 i) 0#32) (Scalar.cmpi .slt 3#32 0#32)) (k0_pay27 i))
    (IntOp.addi (k0_pay26 i) 3#32) (k0_pay26 i)) 128#32) ((iota .tc S192x128 32 [1] iota_S192x128_d1_w32) i) = _
  rw [lane, third]
  have h3 : (i 0).val % 3 < 3 := Nat.mod_lt _ (by decide)
  have hc : IntOp.cmpi .slt (BitVec.ofNat 32 ((i 0).val % 3)) 0#32 = 0#1 := by
    generalize (i 0).val % 3 = n at h3
    interval_cases n <;> decide
  have ha : IntOp.andi (IntOp.xori 0#1 (Scalar.cmpi .slt 3#32 0#32)) (k0_pay27 i) = 0#1 := by
    generalize k0_pay27 i = b
    revert b
    decide
  rw [hc, ha, Scalar.select, if_neg (by decide)]
  show BitVec.ofNat 32 _ * BitVec.ofNat 32 128 + BitVec.ofNat 32 _ = _
  rw [← BitVec.ofNat_mul, ← BitVec.ofNat_add]

/-- … and as a number. -/
theorem place_real (i : S192x128.Idx) :
    FloatOps.sitofp (F := Ideal) .f32 (BitVec.ofNat 32 ((i 0).val % 3 * 128 + (i 1).val))
      = ((((i 0).val % 3 * 128 + (i 1).val : ℕ) : ℝ) : EReal) := by
  have h3 : (i 0).val % 3 < 3 := Nat.mod_lt _ (by decide)
  have h1 : (i 1).val < 128 := (i 1).isLt
  show (((BitVec.ofNat 32 ((i 0).val % 3 * 128 + (i 1).val)).toInt : ℝ) : EReal) = _
  rw [WordCmp.toInt_ofNat_of_lt (by show _ < 2 ^ 31; omega), Int.cast_natCast]

/-- The array the call leaves, element by element. -/
theorem out_apply (x : Vec Ideal S64 .f32) (i : S192x128.Idx) :
    out x i = anchor (word x ((i 0).val / 3)) ((((i 0).val % 3 * 128 + (i 1).val : ℕ) : ℝ) : EReal) := by
  unfold out k0_pay1 k0_pay28 k0_pay29
  dsimp only
  have hd := place i
  revert hd
  generalize (addi (muli _ _) _ : IVec S192x128 32) = d
  intro hd
  have hq := column_apply (word x) (ValueIdx.ix2 (i 0) 0)
  revert hq
  generalize column (word x) = q
  intro hq
  replace hq : q (ValueIdx.ix2 (i 0) 0) = word x ((i 0).val / 3) := hq
  simp only [fptosi_apply, roundeven_apply, minimumf_apply, maximumf_apply, addf_apply, subf_apply, mulf_apply, divf_apply,
    sqrt_apply, log_apply, absf_apply, ValueIdx.sitofp_apply, ValueIdx.broadcast_apply, spread, hd, hq, place_real,
    Ideal.ofBits_def, Ideal.addf_def, Ideal.subf_def, Ideal.mulf_def, Ideal.divf_def, Ideal.sqrt_def, Ideal.log_def,
    Ideal.roundeven_def, Ideal.maximumf_def, Ideal.minimumf_def, Ideal.ofBits_zero_f32, word_256, word_2, word_half, word_quarter]
  rfl

end Cert.KernelIdeal.Anchors

end
-- ==== Proof.KernelRun.lean ====
/- The kernel's run with its result: the array the call leaves, read by the two host operations that follow it, is the
   anchor positions, 257 columns for each of the 64 parameters. -/
module

public import proofs.«01_k».proof.Proof.KernelValue
public import Idealize.ShloMosaic.Lib.Claim

@[expose] public section

noncomputable section

namespace Cert.KernelIdeal.Anchors

open Idealize.ShloMosaic Idealize.ShloMosaic.TcCoe Idealize.ShloMosaic.Tactic
open Idealize.SL Idealize.SL.Sem
open Cert.KernelIdeal Cert.KernelIdeal.Gen Cert.Anchor

/-- The anchor positions of the parameters `p`. -/
def anchors (p : S64x1.Idx → EReal) : S64x257x1.Idx → BitVec 32 :=
  fun i => anchor (p (ValueIdx.ix2 (i 0) 0)) (((i 1).val : ℝ) : EReal)

/-- The host operations after the call read, at row `b` and column `n`, place `384 b + n` of the array. -/
theorem cut_apply (x : Vec Ideal S64 .f32) (i : S64x257x1.Idx) :
    extractStridedSlice S64x257x1 ![0, 0, 0] (shapeCast S64x384x1 (out x) shapeCasts_S192x128_S64x384x1)
      slices_S64x384x1_S64x257x1_0_0_0 i = anchor (word x (i 0).val) (((i 1).val : ℝ) : EReal) := by
  have h0 : (i 0).val < 64 := (i 0).isLt
  have h1 : (i 1).val < 257 := (i 1).isLt
  have h2 : (i 2).val < 1 := (i 2).isLt
  rw [extractStridedSlice_apply _ _ _ i (ValueIdx.ix3 ⟨(i 0).val, h0⟩ ⟨(i 1).val, by omega⟩ 0) (fun a => by
      fin_cases a
      · show (i 0).val = 0 + (i 0).val; omega
      · show (i 1).val = 0 + (i 1).val; omega
      · show 0 = 0 + (i 2).val; omega),
    shapeCast_apply _ _ _ (ValueIdx.ix2 ⟨((i 0).val * 384 + (i 1).val) / 128, by omega⟩ ⟨((i 0).val * 384 + (i 1).val) % 128, by omega⟩) (by
      rw [Shape.rowMajor_val_two, Shape.rowMajor_val_three]
      show ((i 0).val * 384 + (i 1).val) / 128 * 128 + ((i 0).val * 384 + (i 1).val) % 128 = ((i 0).val * 384 + (i 1).val) * 1 + 0
      omega),
    out_apply]
  congr 2
  · show ((i 0).val * 384 + (i 1).val) / 128 / 3 = (i 0).val
    omega
  · show (((((i 0).val * 384 + (i 1).val) / 128 % 3 * 128 + ((i 0).val * 384 + (i 1).val) % 128 : ℕ) : ℝ)) = _
    congr 1
    omega

/-- The parameters as the call finds them. -/
theorem word_reshape (p : Vec Ideal S64x1 .f32) (b : Fin 64) :
    word (shapeCast S64 p shapeCasts_S64x1_S64) b.val = p (ValueIdx.ix2 b 0) := by
  rw [word, dif_pos b.isLt, shapeCast_apply _ _ _ (ValueIdx.ix2 b 0)]
  rw [Shape.rowMajor_val_two, Shape.rowMajor_val_one]
  show b.val * 1 + 0 = b.val
  omega

variable (m : (ℓ : Loc nD τ sig) → Buf (Elt Ideal) ℓ) (ρ : Dev nD → PrngReg)

/-- The parameters at the call: the argument reshaped by the host. -/
theorem entry (c : Dev nD) :
    V m c main_v0 = shapeCast S64 (m ((c.tc : Thread nD τ).loc main_arg1)) shapeCasts_S64x1_S64 := by
  show StableHlo.after hostOps0 (fun b => m (c, b)) (Proc.devRef .tc main_v0) = _
  after_results_simp
  rfl

/-- The result buffer after the host operations. -/
theorem tail (c : Dev nD) : Pipeline.afterTail₀ cfgs (dats m) 0 (V0 m) [hostOps1] c main_v3
    = anchors (m ((c.tc : Thread nD τ).loc main_arg1)) := by
  have hA := Pipeline.withArrays_arr (cfgs 0).spec winFacts0.arr_inj c (V0 m c) (fun w => (dats m 0 c).arrAt w (cfgs 0).N) 1
  have hf : (dats m 0 c).arrAt 1 (cfgs 0).N = _ := final m c
  rw [hf, entry] at hA
  unfold Pipeline.afterTail₀
  revert hA
  generalize Pipeline.withArrays (cfgs 0).spec c (V0 m c) (fun w => (dats m 0 c).arrAt w (cfgs 0).N) = W
  intro hA
  show StableHlo.after hostOps1 W (Proc.devRef .tc main_v3) = _
  after_results_simp
  have hW : W (Proc.devRef .tc main_v1) = out (shapeCast S64 (m (c.tc.loc main_arg1)) shapeCasts_S64x1_S64) := hA
  rw [hW]
  funext i
  refine (cut_apply _ i).trans ?_
  rw [word_reshape _ (i 0)]
  rfl

/-- The kernel's run: the result at the anchor positions, the arguments unchanged. -/
theorem run : θ_run defs (onTc (τ := τ) (main (F := Ideal))) ⟨m, fun _ => 0, ρ⟩ fun r => ∀ c : Dev nD,
      r.2.mem ((c.tc : Thread nD τ).loc main_v3) = anchors (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Gen.run_main m ρ & Gen.unchanged m ρ
  exact tail m c

end Cert.KernelIdeal.Anchors

end
-- ==== Proof.RefValue.lean ====
/- The reference's result, element by element: column `n` of row `b` is the anchor position of the row's parameter at
   the distance `n`. -/
module

public import proofs.«01_k».proof.Proof.Gen.ReferenceIdeal.Read
public import proofs.«01_k».proof.Proof.Anchor
public import Idealize.ShloMosaic.Lib.ValueIdx
public import Idealize.ShloMosaic.Lib.WordCmp
public import Idealize.ShloMosaic.Lib.Quiescent

@[expose] public section

noncomputable section

namespace Cert.ReferenceIdeal.Anchors

open Idealize.ShloMosaic Cert.ReferenceIdeal Cert.ReferenceIdeal.Read Cert.Anchor

/-- The column's number, as a float. -/
theorem iota_real (i : S257.Idx) : val_main_v10 (F := Ideal) i = (((i 0).val : ℝ) : EReal) := by
  have h : (i 0).val < 257 := (i 0).isLt
  show (((BitVec.ofNat 32 (i 0).val).toInt : ℝ) : EReal) = _
  rw [WordCmp.toInt_ofNat_of_lt (by show _ < 2 ^ 31; omega)]
  simp

/-- The distance of a column from the middle. -/
theorem distance (i : S1x257.Idx) : val_main_v18 (F := Ideal) i = (((i 1).val : ℝ) : EReal) := by
  show mag (val_main_v15 (F := Ideal) i) = _
  rw [val_main_v15_apply, val_main_v13_apply, val_main_v12_apply, val_main_v14_apply, val_main_v11_apply, iota_real]
  simp only [val_main_cst_apply, val_main_cst_1_apply, Ideal.ofBits_def, Ideal.subf_def, Ideal.addf_def, word_256]
  exact mag_moved (i 1).val

/-- The clip's bounds, integers converted. -/
theorem bound_low : FloatOps.sitofp (F := Ideal) .f32 (0#32) = (0 : EReal) := by
  show (((0#32 : BitVec 32).toInt : ℝ) : EReal) = 0
  simp

theorem bound_high : FloatOps.sitofp (F := Ideal) .f32 (256#32) = ((256 : ℝ) : EReal) := by
  show (((256#32 : BitVec 32).toInt : ℝ) : EReal) = _
  rw [show (256#32 : BitVec 32).toInt = 256 from by decide]
  norm_num

/-- Every stage that reads the parameter reads it at the row. -/
theorem parameter (i : S64x257x1.Idx) (j : S64x1.Idx) (h : j = idx_main_v64 (idx_main_v73 i)) :
    j = ValueIdx.ix2 (i 0) 0 := by
  subst h
  funext a
  fin_cases a <;> rfl

/-- The result at a row and a column. -/
theorem result (x1 : (⟨S64x1, .f32⟩ : BufTy).Contents (Elt Ideal)) (i : S64x257x1.Idx) :
    val_main_v73 (F := Ideal) x1 i = anchor (x1 (ValueIdx.ix2 (i 0) 0)) (((i 1).val : ℝ) : EReal) := by
  have h24 : idx_main_v24 (idx_main_v73 i) = ValueIdx.ix2 (i 0) 0 := parameter i _ rfl
  have h31 : idx_main_v31 (idx_main_v73 i) = ValueIdx.ix2 (i 0) 0 := parameter i _ rfl
  have h38 : idx_main_v38 (idx_main_v73 i) = ValueIdx.ix2 (i 0) 0 := parameter i _ rfl
  have h62 : idx_main_v62 (idx_main_v73 i) = ValueIdx.ix2 (i 0) 0 := parameter i _ rfl
  have h64 : idx_main_v64 (idx_main_v73 i) = ValueIdx.ix2 (i 0) 0 := parameter i _ rfl
  simp only [val_main_v16_apply, val_main_v17_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_call5_v0_apply, val_main_call5_v1_apply, val_main_call5_v2_apply, val_main_call5_v3_apply, val_main_call5_v4_apply, val_main_c_13_apply, val_main_c_14_apply, distance]
  simp only [h24, h31, h38, h62, h64, Ideal.ofBits_def, Ideal.addf_def, Ideal.subf_def, Ideal.mulf_def, Ideal.hostDivf_def,
    Ideal.hostUnary_sqrt_def, Ideal.hostUnary_log_def, Ideal.hostUnary_roundeven_def, Ideal.maximumf_def,
    Ideal.minimumf_def, Ideal.ofBits_zero_f32, word_256, word_2, word_half, word_quarter, bound_low, bound_high,
    zero_add, zero_mul]
  rfl

open Idealize.SL Idealize.SL.Sem Idealize.ShloMosaic.TcCoe

/-- The reference keeps its arguments and, having no semaphore, ends with every counter at zero. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (Value.run m ρ)

/-- The reference's run: the result at the anchor positions, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v73)
        = (fun i : S64x257x1.Idx => anchor (m ((c.tc : Thread nD τ).loc main_arg1) (ValueIdx.ix2 (i 0) 0)) (((i 1).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v73_eq m c).trans (funext (result _))), (h c).2⟩)
    (Value.run m ρ)

end Cert.ReferenceIdeal.Anchors

end
-- ==== Proof.lean ====
/- The three programs run and keep their arguments, and the kernel and the reference, read over the extended reals, end
   with the same anchor positions. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The two programs end with the same anchor positions. -/
theorem algebraic : Cert.algebraic_KernelIdeal_ReferenceIdeal := by
  intro m g m' g' _ agree
  refine ⟨fun c => Cert.KernelIdeal.Anchors.anchors (m ((c.tc : Thread Cert.KernelIdeal.nD Cert.KernelIdeal.τ).loc Cert.KernelIdeal.main_arg1)),
    Cert.KernelIdeal.Anchors.run m g, ?_⟩
  refine (θ_run Cert.ReferenceIdeal.defs _ _).mono (fun r h c => ⟨(h c).1.trans ?_, (h c).2⟩) (Cert.ReferenceIdeal.Anchors.run m' g')
  rw [(agree c).2]
  rfl

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Anchors.frame m g, trivial, algebraic⟩

end Cert.Proof

end
